-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x3x32x32 : Shape := ⟨4, ![8192, 3, 32, 32]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x3x32x32 .f32) (main_arg1 : FVec F S8192x3x32x32 .f32) (main_arg2 : IVec S8192 32) : IVec S_ 1 :=
  let main_c : IVec S_ 32 := constantI S_ 32 1#32
  let main_v0 : IVec S8192 32 := broadcastInDim S8192 ![] bcast_S_S8192 main_c
  let main_v1 : IVec S8192 1 := cmpi .sge main_arg2 main_v0
  let main_c_0 : IVec S_ 32 := constantI S_ 32 1000#32
  let main_v2 : IVec S8192 32 := broadcastInDim S8192 ![] bcast_S_S8192 main_c_0
  let main_v3 : IVec S8192 1 := cmpi .sle main_arg2 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S8192x3x32x32 : Shape := ⟨4, ![8192, 3, 32, 32]⟩
abbrev S8192 : Shape := ⟨1, ![8192]⟩
abbrev S1x1024 : Shape := ⟨2, ![1, 1024]⟩
abbrev S1x3072 : Shape := ⟨2, ![1, 3072]⟩
abbrev S8192x3072 : Shape := ⟨2, ![8192, 3072]⟩
abbrev S16x512x1 : Shape := ⟨3, ![16, 512, 1]⟩
abbrev S512x3072 : Shape := ⟨2, ![512, 3072]⟩
abbrev S1x512x1 : Shape := ⟨3, ![1, 512, 1]⟩
abbrev S512x1 : Shape := ⟨2, ![512, 1]⟩
abbrev S512x1024 : Shape := ⟨2, ![512, 1024]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S8192x3x32x32, .f32⟩
  | .hbm, ⟨1, _⟩ => ⟨S8192x3x32x32, .f32⟩
  | .hbm, ⟨2, _⟩ => ⟨S8192, .i32⟩
  | .hbm, ⟨3, _⟩ => ⟨S1x1024, .f32⟩
  | .hbm, ⟨4, _⟩ => ⟨S1x1024, .f32⟩
  | .hbm, ⟨5, _⟩ => ⟨S1x3072, .f32⟩
  | .hbm, ⟨6, _⟩ => ⟨S8192x3072, .f32⟩
  | .hbm, ⟨7, _⟩ => ⟨S8192x3072, .f32⟩
  | .hbm, ⟨8, _⟩ => ⟨S16x512x1, .i32⟩
  | .hbm, ⟨9, _⟩ => ⟨S8192x3072, .f32⟩
  | .hbm, ⟨10, _⟩ => ⟨S8192x3x32x32, .f32⟩
  | .local _ .vmem, ⟨0, _⟩ => ⟨S16x512x1, .i32⟩
  | .local _ .vmem, ⟨1, _⟩ => ⟨S1x1024, .f32⟩
  | .local _ .vmem, ⟨2, _⟩ => ⟨S1x1024, .f32⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S512x3072, .f32⟩
  | .local _ .vmem, ⟨7, _⟩ => ⟨S512x3072, .f32⟩
  | .local _ .vmem, ⟨8, _⟩ => ⟨S512x3072, .f32⟩
  | .local _ .vmem, ⟨9, _⟩ => ⟨S512x3072, .f32⟩
  | _, _ => ⟨S8192x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x3x32x32 : Shape := ⟨4, ![8192, 3, 32, 32]⟩
abbrev S8192 : Shape := ⟨1, ![8192]⟩
abbrev S1001 : Shape := ⟨1, ![1001]⟩
abbrev S_ : Shape := ⟨0, ![]⟩
abbrev S8192x1 : Shape := ⟨2, ![8192, 1]⟩
abbrev S8192x1x1x1 : Shape := ⟨4, ![8192, 1, 1, 1]⟩
abbrev S32x32 : Shape := ⟨2, ![32, 32]⟩
abbrev S1x1x32x32 : Shape := ⟨4, ![1, 1, 32, 32]⟩

abbrev nBuf : Space → Nat
  | .hbm => 43
  | .vmem => 0
  | .smem => 0
  | _ => 0

abbrev bufTy : (tb : Table) → Fin (tcTables nBuf tb) → BufTy
  | .hbm, ⟨0, _⟩ => ⟨S8192x3x32x32, .f32⟩
  | .hbm, ⟨1, _⟩ => ⟨S8192x3x32x32, .f32⟩
  | .hbm, ⟨2, _⟩ => ⟨S8192, .i32⟩
  | .hbm, ⟨3, _⟩ => ⟨S1001, .f32⟩
  | .hbm, ⟨4, _⟩ => ⟨S1001, .f32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192, .f32⟩
  | .hbm, ⟨17, _⟩ => ⟨S8192x1x1x1, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192, .f32⟩
  | .hbm, ⟨27, _⟩ => ⟨S8192x1x1x1, .f32⟩
  | .hbm, ⟨28, _⟩ => ⟨S32x32, .i32⟩
  | .hbm, ⟨29, _⟩ => ⟨S32x32, .i32⟩
  | .hbm, ⟨30, _⟩ => ⟨S_, .i32⟩
  | .hbm, ⟨31, _⟩ => ⟨S32x32, .i32⟩
  | .hbm, ⟨32, _⟩ => ⟨S32x32, .i32⟩
  | .hbm, ⟨33, _⟩ => ⟨S32x32, .i1⟩
  | .hbm, ⟨34, _⟩ => ⟨S32x32, .f32⟩
  | .hbm, ⟨35, _⟩ => ⟨S8192x3x32x32, .f32⟩
  | .hbm, ⟨36, _⟩ => ⟨S8192x3x32x32, .f32⟩
  | .hbm, ⟨37, _⟩ => ⟨S1x1x32x32, .f32⟩
  | .hbm, ⟨38, _⟩ => ⟨S8192x3x32x32, .f32⟩
  | .hbm, ⟨39, _⟩ => ⟨S8192x3x32x32, .f32⟩
  | .hbm, ⟨40, _⟩ => ⟨S8192x3x32x32, .f32⟩
  | .hbm, ⟨41, _⟩ => ⟨S8192x3x32x32, .f32⟩
  | .hbm, ⟨42, _⟩ => ⟨S8192x3x32x32, .f32⟩
  | _, _ => ⟨S8192x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Steps.lean ====
/- The precondition, unpacked: every time step lies in 1..1000. -/
module

public import proofs.«01_k».proof.Pre_in_range
public import proofs.«01_k».proof.Proof.Gen.Pre_in_range
public import Idealize.ShloMosaic.Lib.Pointwise
public import Idealize.ShloMosaic.Lib.ReduceAll
public import Idealize.ShloMosaic.Lib.Affine

@[expose] public section

set_option maxRecDepth 16384

noncomputable section

namespace Cert.Schedule

open Idealize.ShloMosaic Cert.Pre_in_range

/-- Where the precondition holds, sample `b`'s time step is `k + 1` for some `k` below 1000. -/
theorem steps_of_pre (x n : FVec Ideal S8192x3x32x32 .f32) (t : IVec S8192 32)
    (h : Cert.Pre_in_range.fn (F := Ideal) x n t = fun _ => 1#1) (b : Fin 8192) :
    ∃ k : Fin 1000, t (ix1 b) = BitVec.ofNat 32 (k.val + 1) := by
  have h0 := congrFun h ix0
  dsimp only [Cert.Pre_in_range.fn] at h0
  have : Subsingleton S_.Idx := ⟨fun a b => funext fun i => i.elim0⟩
  have h1 := Host.reduce_andi_all _ _ _ _ _ h0 (ix1 b)
  pointwise at h1
  obtain ⟨hlo, hhi⟩ := IntOp.andi_eq_one.mp h1
  rw [IntOp.cmpi_sge] at hlo
  rw [IntOp.cmpi_sle] at hhi
  generalize t (ix1 b) = w at *
  have e1 : (1#32 : BitVec 32).toInt = 1 := by decide
  have e2 : (1000#32 : BitVec 32).toInt = 1000 := by decide
  rw [e1] at hlo
  rw [e2] at hhi
  have hn : (w.toNat : Int) = w.toInt := by
    rw [BitVec.toInt_eq_toNat_cond]; split <;> [rfl; (rw [BitVec.toInt_eq_toNat_cond] at hlo; omega)]
  refine ⟨⟨w.toNat - 1, by omega⟩, BitVec.eq_of_toNat_eq ?_⟩
  rw [BitVec.toNat_ofNat]
  show w.toNat = (w.toNat - 1 + 1) % 2 ^ 32
  omega

end Cert.Schedule

end
-- ==== Proof.Tables.lean ====
/- The literal tables of the two programs, word by word: the schedule's two rows of the kernel (1024 words, of which
   the first 1001 are the schedule) against the reference's two vectors (1001 words), and the kernel's flat identity
   mask against the test "row = column". -/
module

public import proofs.«01_k».proof.KernelIdeal
public import proofs.«01_k».proof.ReferenceIdeal

@[expose] public section

set_option maxRecDepth 65536

namespace Cert.Schedule

open Idealize.ShloMosaic

/-- The kernel's first schedule row and the reference's vector `P` are the same 1001 words. -/
theorem words_P : ∀ k : Fin 1001, Cert.KernelIdeal.lit0 ⟨k.val, by omega⟩ = Cert.ReferenceIdeal.lit0 k := by
  decide +kernel

/-- The kernel's second schedule row and the reference's vector `C` are the same 1001 words. -/
theorem words_C : ∀ k : Fin 1001, Cert.KernelIdeal.lit1 ⟨k.val, by omega⟩ = Cert.ReferenceIdeal.lit1 k := by
  decide +kernel

/-- The kernel's flat mask holds the word of 1.0 where, within its channel of 1024 entries, the row is the column,
    and the word of 0.0 elsewhere. -/
theorem words_mask : ∀ j : Fin 3072, Cert.KernelIdeal.lit2 j
    = if (j.val / 32) % 32 = j.val % 32 then 0x3F800000#32 else 0x00000000#32 := by
  decide +kernel

end Cert.Schedule

end
-- ==== Proof.Block.lean ====
/- What one grid point of the kernel stores, element by element: the one-hot selection over the 1024 lanes of a
   schedule row is the row's entry at the sample's own time step. -/
module

public import proofs.«01_k».proof.Proof.Gen.KernelIdeal.Skeleton
public import Idealize.ShloMosaic.Lib.Pointwise

@[expose] public section

set_option maxRecDepth 16384

noncomputable section

namespace Cert.Schedule

open Idealize.ShloMosaic Cert.KernelIdeal Cert.KernelIdeal.Gen

/-- Two lane numbers below 1024 with the same 32-bit word are the same lane. -/
theorem lane_inj (k l : Fin 1024) (h : BitVec.ofNat 32 k.val = BitVec.ofNat 32 l.val) : k = l := by
  have := congrArg BitVec.toNat h
  simp only [BitVec.toNat_ofNat] at this
  exact Fin.ext (by omega)

/-- The sum over all lanes of "the row's entry where the lane number is the word `w`, zero elsewhere" is the row's
    entry at lane `k`, when `w` is the word of `k`. -/
theorem oneHot_sum (f : Fin 1024 → EReal) (w : BitVec 32) (k : Fin 1024) (hw : w = BitVec.ofNat 32 k.val) :
    ∑ l : Fin 1024, Scalar.select (IntOp.cmpi CmpIPredicate.eq w (BitVec.ofNat 32 l.val)) (f l) 0 = f k := by
  rw [Finset.sum_eq_single k]
  · subst hw; simp [IntOp.cmpi, Scalar.select]
  · intro l _ hl
    have hne : w ≠ BitVec.ofNat 32 l.val := fun h => hl (lane_inj _ _ (h.symm.trans hw))
    have hb : (w == BitVec.ofNat 32 l.val) = false := beq_eq_false_iff_ne.mpr hne
    simp [IntOp.cmpi, Scalar.select, hb]
  · intro h; exact absurd (Finset.mem_univ k) h

/-- One element of the block stored at a grid point, in row `r` and column `l`, when the row's time step is
    `k + 1`: `x * p[k] + n * (e * c[k])`. -/
theorem block_apply (v1 : Vec Ideal S1x512x1 .i32) (p c : Vec Ideal S1x1024 .f32) (x n : Vec Ideal S512x3072 .f32)
    (e : Vec Ideal S1x3072 .f32) (r : Fin 512) (l : Fin 3072) (k : Fin 1024)
    (hk : v1 (ix3 0 r 0) = BitVec.ofNat 32 (k.val + 1)) :
    k0_pay1 (F := Ideal) v1 p c x n e (ix2 r l)
      = x (ix2 r l) * p (ix2 0 k) + n (ix2 r l) * (e (ix2 0 l) * c (ix2 0 k)) := by
  have hw : IntOp.subi (v1 (ix3 0 r 0)) 1#32 = BitVec.ofNat 32 k.val := by
    rw [hk, BitVec.ofNat_add]; exact BitVec.add_sub_cancel _ _
  pointwise [k0_pay1]
  rw [oneHot_sum _ _ k hw, oneHot_sum _ _ k hw]

end Cert.Schedule

end
-- ==== Proof.Blocks.lean ====
/- What each input window's block holds at a grid point, as entries of the kernel's arguments and of its literal
   tables. -/
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Schedule

open Idealize.ShloMosaic Cert.KernelIdeal Cert.KernelIdeal.Gen Idealize.ShloMosaic.TcCoe

variable (m : (ℓ : Loc nD τ sig) → Buf (Elt Ideal) ℓ) (c : Dev nD)

/-- Which block each window shows at point `t`: the sample windows move down the rows, the others stay; and the body's
    load of the time steps starts at column `t`. -/
theorem index_facts : ∀ t : Fin cfg0.N,
    win0_0.index t = ![0, 0, 0] ∧ win0_1.index t = ![0, 0] ∧ win0_2.index t = ![0, 0] ∧ win0_3.index t = ![0, 0]
      ∧ win0_4.index t = ![t.val, 0] ∧ win0_5.index t = ![t.val, 0] ∧ win0_6.index t = ![t.val, 0]
      ∧ k0_off1 (grid0.coords t) = ![t.val, 0, 0] := by
  decide +kernel

/-- The first operand as the region finds it: the argument `x_0`, flattened per sample. -/
theorem V_x (b : Fin 8192) (l : Fin 3072) : V m c main_v0 (ix2 b l)
      = m ((c.tc : Thread nD τ).loc main_arg0) (ix4 b ⟨l.val / 1024, by omega⟩ ⟨l.val / 32 % 32, by omega⟩ ⟨l.val % 32, by omega⟩) := by
  unfold V V0
  after_reads_at

/-- The second operand as the region finds it: the argument `normal`, flattened per sample. -/
theorem V_n (b : Fin 8192) (l : Fin 3072) : V m c main_v1 (ix2 b l)
      = m ((c.tc : Thread nD τ).loc main_arg1) (ix4 b ⟨l.val / 1024, by omega⟩ ⟨l.val / 32 % 32, by omega⟩ ⟨l.val % 32, by omega⟩) := by
  unfold V V0
  after_reads_at

/-- The time steps as the region finds them: sixteen columns of 512. -/
theorem V_ts (b : Fin 16) (r : Fin 512) : V m c main_v2 (ix3 b r 0)
      = m ((c.tc : Thread nD τ).loc main_arg2) (ix1 ⟨b.val * 512 + r.val, by omega⟩) := by
  unfold V V0
  after_reads_at

/-- The schedule's first row as the region finds it: the literal words. -/
theorem V_p (l : Fin 1024) : V m c main_cst (ix2 0 l) = Ideal.ofBits .f32 (lit0 l) := by
  unfold V V0
  after_reads_at
  exact congrArg (fun i => Ideal.ofBits .f32 (lit0 i)) (Fin.ext (by rw [rowMajor_val2 _ _ rfl]; simp))

/-- The schedule's second row as the region finds it: the literal words. -/
theorem V_c (l : Fin 1024) : V m c main_cst_0 (ix2 0 l) = Ideal.ofBits .f32 (lit1 l) := by
  unfold V V0
  after_reads_at
  exact congrArg (fun i => Ideal.ofBits .f32 (lit1 i)) (Fin.ext (by rw [rowMajor_val2 _ _ rfl]; simp))

/-- The flat identity mask as the region finds it: the literal words. -/
theorem V_mask (l : Fin 3072) : V m c main_cst_1 (ix2 0 l) = Ideal.ofBits .f32 (lit2 l) := by
  unfold V V0
  after_reads_at
  exact congrArg (fun i => Ideal.ofBits .f32 (lit2 i)) (Fin.ext (by rw [rowMajor_val2 _ _ rfl]; simp))

/-- Row `r` of the block of `x_0` at point `t` is the array's row `512 t + r`. -/
theorem x_block (t : Fin cfg0.N) (r : Fin 512) (l : Fin 3072) (b : Fin 8192) (hb : b.val = t.val * 512 + r.val) :
    iblk m c 4 t (ix2 r l) = V m c main_v0 (ix2 b l) := by
  blk_ext [iblk, index_facts t]

/-- Row `r` of the block of `normal` at point `t` is the array's row `512 t + r`. -/
theorem n_block (t : Fin cfg0.N) (r : Fin 512) (l : Fin 3072) (b : Fin 8192) (hb : b.val = t.val * 512 + r.val) :
    iblk m c 5 t (ix2 r l) = V m c main_v1 (ix2 b l) := by
  blk_ext [iblk, index_facts t]

/-- The block of the schedule's first row is the whole row at every point. -/
theorem p_block (t : Fin cfg0.N) (l : Fin 1024) : iblk m c 1 t (ix2 0 l) = V m c main_cst (ix2 0 l) := by
  blk_ext [iblk, index_facts t]

/-- The block of the schedule's second row is the whole row at every point. -/
theorem c_block (t : Fin cfg0.N) (l : Fin 1024) : iblk m c 2 t (ix2 0 l) = V m c main_cst_0 (ix2 0 l) := by
  blk_ext [iblk, index_facts t]

/-- The block of the mask is the whole mask at every point. -/
theorem mask_block (t : Fin cfg0.N) (l : Fin 3072) : iblk m c 3 t (ix2 0 l) = V m c main_cst_1 (ix2 0 l) := by
  blk_ext [iblk, index_facts t]

/-- Row `r` of the time-step column that point `t` loads. -/
theorem ts_block (t : Fin cfg0.N) (r : Fin 512) (inb) :
    View.ld (S := S16x512x1) (iblk m c 0 t) (Rect.unit (s := S16x512x1) (k0_off1 (grid0.coords t)) S1x512x1.size inb) (ix3 (0 : Fin 1) r (0 : Fin 1) : S1x512x1.Idx)
      = V m c main_v2 (ix3 ⟨t.val, t.isLt⟩ r 0) := by
  revert inb
  rw [(index_facts t).2.2.2.2.2.2.2]
  intro inb
  unfold View.ld
  blk_ext [iblk, index_facts t]
  · show t.val + 1 * 0 = t.val
    omega
  · show 0 + 1 * r.val = r.val
    omega

end Cert.Schedule

end
-- ==== Proof.Value.lean ====
/- What the kernel's result holds after a run, as a function of its arguments. -/
module

public import proofs.«01_k».proof.Proof.Block
public import proofs.«01_k».proof.Proof.Blocks

@[expose] public section

set_option maxRecDepth 16384

noncomputable section

namespace Cert.Schedule

open Idealize.ShloMosaic Cert.KernelIdeal Cert.KernelIdeal.Gen Idealize.ShloMosaic.TcCoe Idealize.SL.Sem

variable (m : (ℓ : Loc nD τ sig) → Buf (Elt Ideal) ℓ)

/-- The flat result, entry by entry: sample `j 0`, position `j 1` of its 3072, is `x * P + n * (E * C)` with the two
    schedule rows `P`, `C` read at the sample's step `k` and the mask `E` at the position. -/
def rows (X N : Vec Ideal S8192x3072 .f32) (P C : Fin 1024 → EReal) (E : Fin 3072 → EReal) (k : Fin 8192 → Fin 1024) :
    Vec Ideal S8192x3072 .f32 := fun j => X j * P (k (j 0)) + N j * (E (j 1) * C (k (j 0)))

/-- `rows` at the arrays and tables of the kernel as its region finds them. -/
def rowsVal (c : Dev nD) (k : Fin 8192 → Fin 1024) : Vec Ideal S8192x3072 .f32 :=
  rows (V m c main_v0) (V m c main_v1) (fun l => Ideal.ofBits .f32 (lit0 l)) (fun l => Ideal.ofBits .f32 (lit1 l))
    (fun l => Ideal.ofBits .f32 (lit2 l)) k

/-- The output window's array after the last point: every row is written by the one point whose block holds it. -/
theorem rows_eq (c : Dev nD) (k : Fin 8192 → Fin 1024)
    (hk : ∀ b : Fin 8192, m ((c.tc : Thread nD τ).loc main_arg2) (ix1 b) = BitVec.ofNat 32 ((k b).val + 1)) :
    (dats (F := Ideal) m 0 c).arrAt 6 (cfgs 0).N = rowsVal m c k := by
  refine (dats m 0 c).arrAt_eq_of_covers 6 _ (by decide +kernel) fun t hf y => ?_
  blk_simp
  rw [after0_6, outsAt0]
  frame_out
  idx_vars y
  have ht : t.val < 16 := t.isLt
  have hb : t.val * 512 + y0.val < 8192 := by omega
  have he : ((View.whole main_v3).slice (win0_6.rect t)).emb (ix2 y0 y1) = ix2 (⟨t.val * 512 + y0.val, hb⟩ : Fin 8192) y1 := by
    blk_ext [index_facts t]
  rw [he]
  refine (block_apply _ _ _ _ _ _ y0 y1 (k ⟨t.val * 512 + y0.val, hb⟩)
    ((ts_block m c t y0 _).trans ((V_ts m c _ _).trans (hk _)))).trans ?_
  rw [x_block m c t y0 y1 ⟨_, hb⟩ rfl, n_block m c t y0 y1 ⟨_, hb⟩ rfl, p_block, c_block, mask_block, V_p, V_c, V_mask]
  rfl

/-- The result as the program returns it: the flat array, reshaped to images. -/
def resultVal (c : Dev nD) (k : Fin 8192 → Fin 1024) : Vec Ideal S8192x3x32x32 .f32 :=
  shapeCast S8192x3x32x32 (rowsVal m c k) shapeCasts_S8192x3072_S8192x3x32x32

/-- The one host operation behind the region: the result is the flat array's contents, reshaped. -/
theorem tail_eq (W : Valuation τ sig (Elt Ideal)) :
    StableHlo.after [hostOps1 (F := Ideal)].flatten W (Proc.devRef .tc main_v4)
      = shapeCast S8192x3x32x32 (W (Proc.devRef .tc main_v3) : Vec Ideal S8192x3072 .f32) shapeCasts_S8192x3072_S8192x3x32x32 := by
  simp only [hostOps1, List.flatten_cons, List.flatten_nil, List.append_nil]
  after_results_simp
  rfl

/-- After the reshape behind the region, the result buffer holds the flat array reshaped to images. -/
theorem result_eq (c : Dev nD) (k : Fin 8192 → Fin 1024)
    (hk : ∀ b : Fin 8192, m ((c.tc : Thread nD τ).loc main_arg2) (ix1 b) = BitVec.ofNat 32 ((k b).val + 1)) :
    Pipeline.afterTail₀ cfgs (dats (F := Ideal) m) 0 (V0 m) [hostOps1] c main_v4 = resultVal m c k := by
  unfold Pipeline.afterTail₀
  refine (tail_eq _).trans ?_
  rw [show Pipeline.withArrays (cfgs 0).spec c (V0 m c) (fun w => (dats (F := Ideal) m 0 c).arrAt w (cfgs 0).N) (Proc.devRef .tc main_v3)
      = (dats (F := Ideal) m 0 c).arrAt 6 (cfgs 0).N from
        Pipeline.withArrays_arr spec0 winFacts0.arr_inj c (V0 m c) (fun w => (dats (F := Ideal) m 0 c).arrAt w (cfgs 0).N) 6,
    rows_eq m c k hk]
  rfl

/-- Every run of the kernel ends with its result at `resultVal` and its arguments unchanged, when sample `b`'s time
    step is `k b + 1`. -/
theorem kernel_run (g : Dev nD → PrngReg) (k : Dev nD → Fin 8192 → Fin 1024)
    (hk : ∀ (c : Dev nD) (b : Fin 8192), m ((c.tc : Thread nD τ).loc main_arg2) (ix1 b) = BitVec.ofNat 32 ((k c b).val + 1)) :
    θ_run defs (onTc (τ := τ) (main (F := Ideal))) ⟨m, fun _ => 0, g⟩ (fun r => ∀ c : Dev nD,
      r.2.mem ((c.tc : Thread nD τ).loc main_v4) = resultVal m c (k c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from (run_main m g)
  · exact result_eq m c (k c) (hk c)
  · exact W_main_arg0 m _ c
  · exact W_main_arg1 m _ c
  · exact W_main_arg2 m _ c

end Cert.Schedule

end
-- ==== Proof.Reference.lean ====
/- What the reference computes, element by element. -/
module

public import proofs.«01_k».proof.Proof.Gen.ReferenceIdeal.Run
public import Idealize.ShloMosaic.Lib.Pointwise
public import Idealize.ShloMosaic.Lib.Routing.OpsSet

@[expose] public section

set_option maxRecDepth 16384

noncomputable section

namespace Cert.Schedule

open Idealize.ShloMosaic Cert.ReferenceIdeal Cert.ReferenceIdeal.Gen

/-- The index words of the reference's two lookups: the time step less one, a negative one counted from the end. -/
def places (t : IVec S8192 32) : IVec S8192x1 32 :=
  broadcastInDim S8192x1 ![0] bcast_S8192_S8192x1_0
    (select (cmpi .slt (subi t (broadcastInDim S8192 ![] bcast_S_S8192 (constantI S_ 32 1#32))) (broadcastInDim S8192 ![] bcast_S_S8192 (constantI S_ 32 0#32)))
      (addi (subi t (broadcastInDim S8192 ![] bcast_S_S8192 (constantI S_ 32 1#32))) (broadcastInDim S8192 ![] bcast_S_S8192 (constantI S_ 32 1001#32)))
      (subi t (broadcastInDim S8192 ![] bcast_S_S8192 (constantI S_ 32 1#32))))

/-- For a sample whose time step is `k + 1` with `k` below 1000 the index word is `k`. -/
theorem places_apply (t : IVec S8192 32) (b : Fin 8192) (k : Fin 1000)
    (hk : t (ix1 b) = BitVec.ofNat 32 (k.val + 1)) : places t (ix2 b 0) = BitVec.ofNat 32 k.val := by
  have hw : IntOp.subi (t (ix1 b)) 1#32 = BitVec.ofNat 32 k.val := by
    rw [hk, BitVec.ofNat_add]; exact BitVec.add_sub_cancel _ _
  pointwise [places]
  rw [hw]
  have hs : ∀ k : Fin 1000, IntOp.cmpi CmpIPredicate.slt (BitVec.ofNat 32 k.val) 0#32 = 0#1 := by decide +kernel
  rw [hs]
  rfl

/-- Looking a schedule vector of 1001 entries up at every sample's index word. -/
def pick (table : FVec Ideal S1001 .f32) (t : IVec S8192 32) : FVec Ideal S8192 .f32 :=
  Host.gather gather_S1001_S8192x1_S8192_n_0_n_n_0_1_1 table (places t)

/-- A sample whose time step is `k + 1` with `k` below 1000 reads entry `k` of the schedule vector. -/
theorem pick_apply (table : FVec Ideal S1001 .f32) (t : IVec S8192 32) (b : Fin 8192) (k : Fin 1000)
    (hk : t (ix1 b) = BitVec.ofNat 32 (k.val + 1)) : pick table t (ix1 b) = table (ix1 ⟨k.val, by omega⟩) :=
  Routing.gather_take1 _ rfl rfl rfl rfl table (places t) b ⟨k.val, by omega⟩ (places_apply t b k hk) (by decide)

/-- The identity matrix as the reference builds it, as floats. -/
def eye : FVec Ideal S32x32 .f32 :=
  uitofp .f32 (cmpi .eq (addi (iotaInDim S32x32 32 0) (broadcastInDim S32x32 ![] bcast_S_S32x32 (constantI S_ 32 0#32))) (iotaInDim S32x32 32 1))

/-- It is one on the diagonal and zero off it. -/
theorem eye_apply (r q : Fin 32) : eye (ix2 r q) = if r = q then (1 : EReal) else 0 := by
  pointwise [eye]
  have hc : ∀ r q : Fin 32, IntOp.cmpi CmpIPredicate.eq (IntOp.addi (BitVec.ofNat 32 r.val) 0#32) (BitVec.ofNat 32 q.val)
      = if r = q then 1#1 else 0#1 := by decide +kernel
  rw [hc]
  split
  · show (((1#1 : BitVec 1).toNat : ℝ) : EReal) = 1
    simp
  · show (((0#1 : BitVec 1).toNat : ℝ) : EReal) = 0
    simp

/-- The reference's result over the two schedule vectors. -/
def refVal (P C : FVec Ideal S1001 .f32) (x n : FVec Ideal S8192x3x32x32 .f32) (t : IVec S8192 32) : FVec Ideal S8192x3x32x32 .f32 :=
  addf (mulf x (broadcastInDim S8192x3x32x32 ![0, 1, 2, 3] bcast_S8192x1x1x1_S8192x3x32x32_0_1_2_3
      (broadcastInDim S8192x1x1x1 ![0] bcast_S8192_S8192x1x1x1_0 (pick P t))))
    (mulf (mulf n (broadcastInDim S8192x3x32x32 ![0, 1, 2, 3] bcast_S1x1x32x32_S8192x3x32x32_0_1_2_3
        (broadcastInDim S1x1x32x32 ![2, 3] bcast_S32x32_S1x1x32x32_2_3 eye)))
      (broadcastInDim S8192x3x32x32 ![0, 1, 2, 3] bcast_S8192x1x1x1_S8192x3x32x32_0_1_2_3
        (broadcastInDim S8192x1x1x1 ![0] bcast_S8192_S8192x1x1x1_0 (pick C t))))

/-- One element of it, for a sample whose time step is `k + 1`: `x * P[k] + (n * eye) * C[k]`. -/
theorem refVal_apply (P C : FVec Ideal S1001 .f32) (x n : FVec Ideal S8192x3x32x32 .f32) (t : IVec S8192 32)
    (b : Fin 8192) (ch : Fin 3) (r q : Fin 32) (k : Fin 1000) (hk : t (ix1 b) = BitVec.ofNat 32 (k.val + 1)) :
    refVal P C x n t (ix4 b ch r q)
      = x (ix4 b ch r q) * P (ix1 ⟨k.val, by omega⟩)
        + n (ix4 b ch r q) * (if r = q then (1 : EReal) else 0) * C (ix1 ⟨k.val, by omega⟩) := by
  pointwise [refVal]
  rw [pick_apply P t b k hk, pick_apply C t b k hk, eye_apply]

end Cert.Schedule

end
-- ==== Proof.Equation.lean ====
/- The equation between the two programs' results. -/
module

public import proofs.«01_k».proof.Proof.Tables
public import proofs.«01_k».proof.Proof.Value
public import proofs.«01_k».proof.Proof.Reference
public import Idealize.ShloMosaic.Lib.IdealHost

@[expose] public section

set_option maxRecDepth 16384

noncomputable section

namespace Cert.Schedule

open Idealize.ShloMosaic Cert.KernelIdeal Cert.KernelIdeal.Gen Idealize.ShloMosaic.TcCoe

variable (m : (ℓ : Loc nD τ sig) → Buf (Elt Ideal) ℓ)

/-- The reference's schedule vectors, as extended reals. -/
def refP : FVec Ideal Cert.ReferenceIdeal.S1001 .f32 := fun i => Ideal.ofBits .f32 (Cert.ReferenceIdeal.lit0 (Cert.ReferenceIdeal.S1001.rowMajor i))
/-- The second one. -/
def refC : FVec Ideal Cert.ReferenceIdeal.S1001 .f32 := fun i => Ideal.ofBits .f32 (Cert.ReferenceIdeal.lit1 (Cert.ReferenceIdeal.S1001.rowMajor i))

/-- Entry `k` of the reference's first schedule vector is lane `k` of the kernel's first row. -/
theorem refP_apply (k : Fin 1000) : refP (ix1 ⟨k.val, by omega⟩) = Ideal.ofBits .f32 (lit0 ⟨k.val, by omega⟩) := by
  have h : Cert.ReferenceIdeal.S1001.rowMajor (ix1 ⟨k.val, by omega⟩) = (⟨k.val, by omega⟩ : Fin 1001) :=
    Fin.ext (rowMajor_val1 _)
  unfold refP
  rw [h, ← words_P]

/-- Entry `k` of the reference's second schedule vector is lane `k` of the kernel's second row. -/
theorem refC_apply (k : Fin 1000) : refC (ix1 ⟨k.val, by omega⟩) = Ideal.ofBits .f32 (lit1 ⟨k.val, by omega⟩) := by
  have h : Cert.ReferenceIdeal.S1001.rowMajor (ix1 ⟨k.val, by omega⟩) = (⟨k.val, by omega⟩ : Fin 1001) :=
    Fin.ext (rowMajor_val1 _)
  unfold refC
  rw [h, ← words_C]

/-- The mask's entry at a position of the flat image is one where the row is the column, zero elsewhere. -/
theorem mask_value (l : Fin 3072) (r q : Fin 32) (hr : r.val = l.val / 32 % 32) (hq : q.val = l.val % 32) :
    Ideal.ofBits .f32 (lit2 l) = if r = q then (1 : EReal) else 0 := by
  rw [words_mask]
  by_cases h : r = q
  · rw [if_pos h, if_pos (by rw [← hr, ← hq, h])]; exact Ideal.ofBits_one_f32
  · rw [if_neg h, if_neg (fun e => h (Fin.ext (by rw [hr, hq, e])))]; exact Ideal.ofBits_zero_f32

/-- The kernel's result is the reference's, on arguments whose time steps are `k + 1` with `k` below 1000. -/
theorem result_eq_ref (c : Dev nD) (k : Fin 8192 → Fin 1000)
    (hk : ∀ b : Fin 8192, m ((c.tc : Thread nD τ).loc main_arg2) (ix1 b) = BitVec.ofNat 32 ((k b).val + 1)) :
    resultVal m c (fun b => ⟨(k b).val, by have := (k b).isLt; omega⟩)
      = refVal refP refC (m ((c.tc : Thread nD τ).loc main_arg0)) (m ((c.tc : Thread nD τ).loc main_arg1))
          (m ((c.tc : Thread nD τ).loc main_arg2)) := by
  funext j
  idx_vars j
  have hk' := hk j0
  rw [refVal_apply _ _ _ _ _ j0 j1 j2 j3 (k j0) hk', refP_apply, refC_apply]
  pointwise [resultVal, rowsVal, rows]
  have e1 : (⟨(j1.val * 1024 + j2.val * 32 + j3.val) / 1024, by omega⟩ : Fin 3) = j1 := Fin.ext (by show _ / 1024 = _; omega)
  have e2 : (⟨(j1.val * 1024 + j2.val * 32 + j3.val) / 32 % 32, by omega⟩ : Fin 32) = j2 := Fin.ext (by show _ % 32 = _; omega)
  have e3 : (⟨(j1.val * 1024 + j2.val * 32 + j3.val) % 32, by omega⟩ : Fin 32) = j3 := Fin.ext (by show _ % 32 = _; omega)
  rw [V_x, V_n, mask_value _ j2 j3 (by show j2.val = (j1.val * 1024 + j2.val * 32 + j3.val) / 32 % 32; omega)
    (by show j3.val = (j1.val * 1024 + j2.val * 32 + j3.val) % 32; omega)]
  simp only [e1, e2, e3, mul_assoc]

end Cert.Schedule

end
-- ==== Proof.lean ====
/- The certificate's claims, assembled: the frames of the kernel (generated) and of the reference, and the value claim,
   from the kernel's result (Proof/Value), the reference's (Proof/Reference) and the equation between them
   (Proof/Equation). -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Steps
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the reference ends with the arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m g) fun r h =>
    ⟨fun c => ⟨(h c).2.1, (h c).2.2.1, (h c).2.2.2⟩, Idealize.ShloMosaic.sem_eq_zero_of_no_sems (by decide) r.2⟩

/-- The value claim: on time steps in range the two programs end with equal results. -/
theorem value : Cert.algebraic_KernelIdeal_ReferenceIdeal_pre_in_range := by
  intro m g m' g' hpre hagree
  have hsteps : ∀ (c : Dev Cert.KernelIdeal.nD) (b : Fin 8192), ∃ k : Fin 1000,
      m ((c.tc : Thread Cert.KernelIdeal.nD Cert.KernelIdeal.τ).loc Cert.KernelIdeal.main_arg2) (ix1 b) = BitVec.ofNat 32 (k.val + 1) :=
    fun c b => Cert.Schedule.steps_of_pre _ _ _ (hpre c) b
  choose k hk using hsteps
  refine ⟨fun c => Cert.Schedule.resultVal m c (fun b => ⟨(k c b).val, by have := (k c b).isLt; omega⟩),
    Cert.Schedule.kernel_run m g (fun c b => ⟨(k c b).val, by have := (k c b).isLt; omega⟩) hk, ?_⟩
  refine θ_run_mono (Cert.ReferenceIdeal.Value.run m' g') fun r hr c => ?_
  obtain ⟨hv, hargs⟩ := hr c
  refine ⟨hv.trans ?_, hargs⟩
  rw [(hagree c).1, (hagree c).2.1, (hagree c).2.2]
  exact (Cert.Schedule.result_eq_ref m c (k c) (hk c)).symm

/-- Everything the certificate claims. -/
theorem claim : Cert.Claim := ⟨Cert.Kernel.Gen.facts, Cert.KernelIdeal.Gen.facts, Cert.ReferenceIdeal.Gen.facts, Cert.Pre_in_range.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  value⟩

end Cert.Proof

end
